-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S64x1x8192 : Shape := ⟨3, ![64, 1, 8192]⟩
abbrev S2048x11264 : Shape := ⟨2, ![2048, 11264]⟩
abbrev S_ : Shape := ⟨0, ![]⟩

class Facts : Prop where
  bcast_S_S64x1x8192 : S_.BroadcastsInDim S64x1x8192 (![] : Fin 0 → Fin S64x1x8192.rank)

variable [Facts]

def fn {F : FTy → Type} [FloatOps F] (main_arg0 : FVec F S64x1x8192 .bf16) (main_arg1 : IVec S2048x11264 8) (main_arg2 : FVec F S_ .f32) : IVec S64x1x8192 1 :=
  let main_v0 : FVec F S64x1x8192 .bf16 := Host.absf main_arg0
  let main_cst : FVec F S_ .bf16 := constant S_ .bf16 0x7F80#16
  let main_v1 : FVec F S64x1x8192 .bf16 := broadcastInDim S64x1x8192 ![] bcast_S_S64x1x8192 main_cst
  let main_v2 : IVec S64x1x8192 1 := cmpf .olt main_v0 main_v1
  main_v2
-- ==== Kernel.lean ====
abbrev S64x1x8192 : Shape := ⟨3, ![64, 1, 8192]⟩
abbrev S2048x11264 : Shape := ⟨2, ![2048, 11264]⟩
abbrev S_ : Shape := ⟨0, ![]⟩
abbrev S64x8192 : Shape := ⟨2, ![64, 8192]⟩
abbrev S1 : Shape := ⟨1, ![1]⟩
abbrev S64x11264 : Shape := ⟨2, ![64, 11264]⟩
abbrev S2048x512 : Shape := ⟨2, ![2048, 512]⟩
abbrev S64x512 : Shape := ⟨2, ![64, 512]⟩
abbrev S64x1 : Shape := ⟨2, ![64, 1]⟩
abbrev S256x256 : Shape := ⟨2, ![256, 256]⟩
abbrev S64x256 : Shape := ⟨2, ![64, 256]⟩
abbrev S64 : Shape := ⟨1, ![64]⟩
abbrev S16x512 : Shape := ⟨2, ![16, 512]⟩
abbrev S256x512 : Shape := ⟨2, ![256, 512]⟩

abbrev nBuf : Space → Nat
  | .hbm => 6
  | .vmem => 7
  | .smem => 1
  | _ => 0

abbrev bufTy : (tb : Table) → Fin (tcTables nBuf tb) → BufTy
  | .hbm, ⟨0, _⟩ => ⟨S64x1x8192, .bf16⟩
  | .hbm, ⟨1, _⟩ => ⟨S2048x11264, .i8⟩
  | .hbm, ⟨2, _⟩ => ⟨S_, .f32⟩
  | .hbm, ⟨3, _⟩ => ⟨S64x8192, .bf16⟩
  | .hbm, ⟨4, _⟩ => ⟨S1, .f32⟩
  | .hbm, ⟨5, _⟩ => ⟨S64x11264, .bf16⟩
  | .local _ .vmem, ⟨0, _⟩ => ⟨S64x8192, .bf16⟩
  | .local _ .vmem, ⟨1, _⟩ => ⟨S2048x512, .i8⟩
  | .local _ .vmem, ⟨2, _⟩ => ⟨S2048x512, .i8⟩
  | .local _ .vmem, ⟨3, _⟩ => ⟨S64x512, .bf16⟩
  | .local _ .vmem, ⟨4, _⟩ => ⟨S64x512, .bf16⟩
  | .local _ .vmem, ⟨5, _⟩ => ⟨S64x8192, .bf16⟩
  | .local _ .vmem, ⟨6, _⟩ => ⟨S64x1, .f32⟩
  | .local _ .smem, ⟨0, _⟩ => ⟨S1, .f32⟩
  | _, _ => ⟨S64x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x1x8192 : Shape := ⟨3, ![64, 1, 8192]⟩
abbrev S2048x11264 : Shape := ⟨2, ![2048, 11264]⟩
abbrev S_ : Shape := ⟨0, ![]⟩
abbrev S64x2048x4 : Shape := ⟨3, ![64, 2048, 4]⟩
abbrev S4x64x2048 : Shape := ⟨3, ![4, 64, 2048]⟩
abbrev S4 : Shape := ⟨1, ![4]⟩
abbrev S4x1x1 : Shape := ⟨3, ![4, 1, 1]⟩
abbrev S1x2048x11264 : Shape := ⟨3, ![1, 2048, 11264]⟩
abbrev S4x2048x11264 : Shape := ⟨3, ![4, 2048, 11264]⟩
abbrev S64x11264 : Shape := ⟨2, ![64, 11264]⟩

abbrev nBuf : Space → Nat
  | .hbm => 26
  | .vmem => 0
  | .smem => 0
  | _ => 0

abbrev bufTy : (tb : Table) → Fin (tcTables nBuf tb) → BufTy
  | .hbm, ⟨0, _⟩ => ⟨S64x1x8192, .bf16⟩
  | .hbm, ⟨1, _⟩ => ⟨S2048x11264, .i8⟩
  | .hbm, ⟨2, _⟩ => ⟨S_, .f32⟩
  | .hbm, ⟨3, _⟩ => ⟨S64x2048x4, .bf16⟩
  | .hbm, ⟨4, _⟩ => ⟨S4x64x2048, .bf16⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4x1x1, .i32⟩
  | .hbm, ⟨10, _⟩ => ⟨S1x2048x11264, .i8⟩
  | .hbm, ⟨11, _⟩ => ⟨S1x2048x11264, .i32⟩
  | .hbm, ⟨12, _⟩ => ⟨S4x2048x11264, .i32⟩
  | .hbm, ⟨13, _⟩ => ⟨S4x2048x11264, .i32⟩
  | .hbm, ⟨14, _⟩ => ⟨S4x2048x11264, .i32⟩
  | .hbm, ⟨15, _⟩ => ⟨S_, .i32⟩
  | .hbm, ⟨16, _⟩ => ⟨S4x2048x11264, .i32⟩
  | .hbm, ⟨17, _⟩ => ⟨S4x2048x11264, .i32⟩
  | .hbm, ⟨18, _⟩ => ⟨S4x2048x11264, .bf16⟩
  | .hbm, ⟨19, _⟩ => ⟨S_, .bf16⟩
  | .hbm, ⟨20, _⟩ => ⟨S4x2048x11264, .bf16⟩
  | .hbm, ⟨21, _⟩ => ⟨S4x2048x11264, .bf16⟩
  | .hbm, ⟨22, _⟩ => ⟨S64x11264, .f32⟩
  | .hbm, ⟨23, _⟩ => ⟨S64x11264, .f32⟩
  | .hbm, ⟨24, _⟩ => ⟨S64x11264, .f32⟩
  | .hbm, ⟨25, _⟩ => ⟨S64x11264, .bf16⟩
  | _, _ => ⟨S64x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Words.lean ====
/-
  The kernel's own words, named once. The generated modules cut one grid point's arithmetic into well over a hundred small functions
  at arbitrary places; here it is written the way the kernel's source writes it — a permutation matrix, a column tile of the
  activations times it, a tile of packed weights unpacked, one step of the accumulation, the epilogue.
-/
module

public import proofs.«01_k».proof.Proof.Gen.KernelIdeal.Value
public import Idealize.ShloMosaic.Lib.Pipeline.Value
public import Idealize.ShloMosaic.Lib.Tactic

@[expose] public section

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- Columns `256 T` to `256 T + 255` of the activations. -/
abbrev colRect (T : Fin 32) : Rect S64x8192 :=
  Rect.unit (s := S64x8192) ![0, 256 * T.val] S64x256.size (fun a => match a with
    | ⟨0, _⟩ => (by decide : 0 + 64 ≤ 64)
    | ⟨1, _⟩ => by have := T.isLt; show 256 * T.val + 256 ≤ 8192; omega)

/-- Rows `64 T` to `64 T + 63` of a packed weight block. -/
abbrev rowRect (T : Fin 32) : Rect S2048x512 :=
  Rect.unit (s := S2048x512) ![64 * T.val, 0] S64x512.size (fun a => match a with
    | ⟨0, _⟩ => by have := T.isLt; show 64 * T.val + 64 ≤ 2048; omega
    | ⟨1, _⟩ => (by decide : 0 + 512 ≤ 512))

/-- One column tile of the activations. -/
abbrev xtile (x : Vec F S64x8192 .bf16) (T : Fin 32) : Vec F S64x256 .bf16 := View.ld x (colRect T)

/-- One row tile of a packed weight block. -/
abbrev wtile (w : IVec S2048x512 8) (T : Fin 32) : IVec S64x512 8 := fun j => w ((rowRect T).idx j)

/-- The one index of the scale's array. -/
def i1 : S1.Idx := fun a => ⟨0, by revert a; decide⟩

/-- The permutation matrix. -/
def PERM : FVec F S256x256 .bf16 := k0_pay3 k0_pay2

/-- One column tile of the activations times the permutation matrix. -/
def TILE (x : FVec F S64x256 .bf16) : FVec F S64x256 .bf16 :=
  shapeCast S64x256 (truncf .bf16 (matmul dot_S64x256_S256x256_S64x256_1_0_0_1_n_n none
    (shapeCast S64x256 x shapeCasts_S64x256_S64x256) PERM (constant S64x256 .f32 0x00000000#32)) bitsLt_bf16_f32) shapeCasts_S64x256_S64x256

/-- The row sums of the activations. -/
def XSUM (x : FVec F S64x8192 .bf16) : FVec F S64x1 .f32 := k0_pay40 x

/-- One two-bit field of every byte: four rows read as one word, shifted right by `s`, masked, and read as four rows again. -/
def FIELD (w : IVec S64x512 8) (s : BitVec 32) : IVec S64x512 8 :=
  bitcast S64x512 8 (andi (shrui (bitcast S16x512 32 w bitcasts_S64x512_w8_S16x512_w32) (broadcast S16x512 s)) (broadcast S16x512 50529027#32))
    bitcasts_S16x512_w32_S64x512_w8

/-- A tile of packed weights unpacked: its four fields, one below the other. -/
def UNPACK (w : IVec S64x512 8) : FVec F S256x512 .bf16 :=
  concatenate S256x512 0 [⟨S64x512, sitofp .bf16 (FIELD w 0#32)⟩, ⟨S64x512, sitofp .bf16 (FIELD w 2#32)⟩, ⟨S64x512, sitofp .bf16 (FIELD w 4#32)⟩,
    ⟨S64x512, sitofp .bf16 (FIELD w 6#32)⟩] concatenates_S64x512_S64x512_S64x512_S64x512_S256x512_d0

/-- The accumulator after the first `n` tiles. -/
def ACC (xb : Fin 32 → FVec F S64x256 .bf16) (wb : Fin 32 → IVec S64x512 8) : (n : ℕ) → n ≤ 32 → FVec F S64x512 .f32
  | 0, _ => broadcast S64x512 (Scalar.ofBits .f32 0x00000000#32)
  | n + 1, h => addf (ACC xb wb n (Nat.le_of_succ_le h))
      (matmul dot_S64x256_S256x512_S64x512_1_0_0_1_n_n none (xb ⟨n, h⟩) (UNPACK (wb ⟨n, h⟩)) (constant S64x512 .f32 0x00000000#32))

/-- The epilogue: the row sum subtracted, the scale multiplied, the result rounded. -/
def FIN (acc : FVec F S64x512 .f32) (xs : FVec F S64x1 .f32) (s : F .f32) : FVec F S64x512 .bf16 :=
  truncf .bf16 (mulf (subf acc (broadcastTo S64x512 xs broadcasts_S64x1_S64x512)) (broadcast S64x512 s)) bitsLt_bf16_f32

/-- One grid point's output block, of the permuted activations `xp`, the row sums `xs`, the packed block `w` and the scale. -/
def OUT (xp : FVec F S64x8192 .bf16) (xs : FVec F S64x1 .f32) (w : IVec S2048x512 8) (s : FVec F S1 .f32) : FVec F S64x512 .bf16 :=
  FIN (ACC (xtile xp) (wtile w) 32 le_rfl) xs (s i1)

/-- The permuted activations: column tile by column tile. -/
def XP (x : FVec F S64x8192 .bf16) : FVec F S64x8192 .bf16 := fun y =>
  TILE (xtile x ⟨(y 1).val / 256, by have h : (y 1).val < 8192 := (y 1).isLt; omega⟩)
    (fun a => match a with
      | ⟨0, _⟩ => ⟨(y 0).val, (y 0).isLt⟩
      | ⟨1, _⟩ => ⟨(y 1).val % 256, Nat.mod_lt _ (by decide)⟩)

/-- The stores of the first `n` tiles into the scratch, last first. -/
def tiles (xb : Fin 32 → FVec F S64x256 .bf16) : (n : ℕ) → n ≤ 32 → List (View.Piece (Elt F) S64x8192 .bf16)
  | 0, _ => []
  | n + 1, h => (⟨colRect ⟨n, h⟩, TILE (xb ⟨n, h⟩)⟩ : View.Piece (Elt F) S64x8192 .bf16) :: tiles xb n (Nat.le_of_succ_le h)

theorem hz : (![0, 0] : Fin 2 → Nat) = fun _ => 0 := funext fun a => by fin_cases a <;> rfl
theorem hz1 : (![0] : Fin 1 → Nat) = fun _ => 0 := funext fun a => by fin_cases a; rfl

/-- Every stored tile is the permuted activations read at its columns. -/
theorem tiles_eq (x : FVec F S64x8192 .bf16) : ∀ (n : ℕ) (h : n ≤ 32),
    ∀ p ∈ tiles (fun T => xtile x T) n h, ∀ y : p.1.shape.Idx, p.2 y = XP x (p.1.emb y)
  | 0, _ => fun p hp => absurd hp (by simp [tiles])
  | n + 1, h => fun p hp => by
    rcases List.mem_cons.mp hp with rfl | hp
    · intro y
      have h0 : (y 0).val < 64 := (y 0).isLt
      have h1 : (y 1).val < 256 := (y 1).isLt
      have e1 : (((colRect ⟨n, h⟩).emb y 1).val) = 256 * n + 1 * (y 1).val := rfl
      have e0 : (((colRect ⟨n, h⟩).emb y 0).val) = 0 + 1 * (y 0).val := rfl
      show TILE _ y = XP x ((colRect ⟨n, h⟩).emb y)
      unfold XP
      have eT : (⟨((colRect ⟨n, h⟩).emb y 1).val / 256, by rw [e1]; omega⟩ : Fin 32) = ⟨n, h⟩ := Fin.ext (by dsimp only; rw [e1]; omega)
      rw [eT]
      congr 1
      funext a
      apply Fin.ext
      match a with
      | ⟨0, _⟩ => show (y 0).val = ((colRect ⟨n, h⟩).emb y 0).val; rw [e0]; omega
      | ⟨1, _⟩ => show (y 1).val = ((colRect ⟨n, h⟩).emb y 1).val % 256; rw [e1]; omega
    · exact tiles_eq x n _ p hp

section Case

variable (c : Dev nD) (i : grid0.Coords) (arg1 : Memref sig .tc .vmem S64x8192 .bf16) (harg1 : arg1.IsWhole)
  (arg2 : Memref sig .tc .vmem S2048x512 .i8) (harg2 : arg2.IsWhole) (arg3 : Memref sig .tc .smem S1 .f32) (harg3 : arg3.IsWhole)
  (arg4 : Memref sig .tc .vmem S64x512 .bf16) (harg4 : arg4.IsWhole) (arg5 : Memref sig .tc .vmem S64x8192 .bf16) (harg5 : arg5.IsWhole)
  (arg6 : Memref sig .tc .vmem S64x1 .f32) (harg6 : arg6.IsWhole)
  (x0 : Vec F S64x8192 .bf16) (x1 : Vec F S2048x512 .i8) (x2 : Vec F S1 .f32) (xs0 : Vec F S64x8192 .bf16) (xs1 : Vec F S64x1 .f32)

/-- The scale, loaded. -/
theorem scale_read :
    arg3.view.readAt (Elt F) (Rect.unit (s := S1) ![0] S1.size inb_S1_S1_0).toLoadRect (harg3.unread x2) i1 = x2 i1 := by
  rw [View.readAt_eq_ld, harg3.read_unread]
  exact congrFun (View.ld_unit_zero (Val := Elt F) (e := .f32) (S := S1) hz1 inb_S1_S1_0 x2) i1

/-- A LATER POINT's output block, from the scratch the point before left. -/
theorem out_B (hc0 : ¬cond0_0 i) :
    out0_B_3 c i arg1 harg1 arg2 harg2 arg3 harg3 arg4 harg4 arg5 harg5 arg6 harg6 hc0 x0 x1 x2 xs0 xs1 = OUT xs0 xs1 x1 x2 := by
  unfold out0_B_3
  rw [View.read_writes_eq_canon _ _ _ (cover0_B_3 c i arg1 harg1 arg2 harg2 arg3 harg3 arg4 harg4 arg5 harg5 arg6 harg6 hc0 x0 x1 x2 xs0 xs1)]
  unfold kernelRun0_B
  dsimp only
  rw [View.canon_unit_zero hz]
  have e : OUT xs0 xs1 x1 x2
      = FIN (ACC (fun T => arg5.view.readAt (Elt F) (colRect T).toLoadRect (harg5.unread xs0))
          (fun T => arg2.view.readAt (Elt F) (rowRect T).toLoadRect (harg2.unread x1)) 32 le_rfl)
        (arg6.view.readAt (Elt F) (Rect.unit (s := S64x1) ![0, 0] S64x1.size inb_S64x1_S64x1_0_0).toLoadRect (harg6.unread xs1))
        (arg3.view.readAt (Elt F) (Rect.unit (s := S1) ![0] S1.size inb_S1_S1_0).toLoadRect (harg3.unread x2) i1) := by
    rw [scale_read]
    simp only [View.readAt_eq_ld, harg5.read_unread, harg2.read_unread, harg6.read_unread, harg3.read_unread, View.ld_unit_zero (S := S64x1) hz]
    rfl
  rw [e]
  rfl

/-- THE FIRST POINT leaves the permuted activations in the one scratch -/
theorem sout_A_0 (hc0 : cond0_0 i) :
    sout0_A_0 c i arg1 harg1 arg2 harg2 arg3 harg3 arg4 harg4 arg5 harg5 arg6 harg6 hc0 x0 x1 x2 = XP x0 := by
  unfold sout0_A_0
  rw [View.read_writes_eq_canon _ _ _ (scover0_A_0 c i arg1 harg1 arg2 harg2 arg3 harg3 arg4 harg4 arg5 harg5 arg6 harg6 hc0 x0 x1 x2)]
  have e : (kernelRun0_A c i arg1 harg1 arg2 harg2 arg3 harg3 arg4 harg4 arg5 harg5 arg6 harg6 hc0 x0 x1 x2).2.1
      = tiles (fun T => arg1.view.readAt (Elt F) (colRect T).toLoadRect (harg1.unread x0)) 32 le_rfl := rfl
  have hcov := scover0_A_0 c i arg1 harg1 arg2 harg2 arg3 harg3 arg4 harg4 arg5 harg5 arg6 harg6 hc0 x0 x1 x2
  simp only [View.readAt_eq_ld, harg1.read_unread] at e
  funext y
  refine View.canon_apply_of_pieces (XP x0) _ ?_ y (hcov y)
  rw [e]
  exact tiles_eq x0 32 le_rfl

/-- and their row sums in the other; -/
theorem sout_A_1 (hc0 : cond0_0 i) :
    sout0_A_1 c i arg1 harg1 arg2 harg2 arg3 harg3 arg4 harg4 arg5 harg5 arg6 harg6 hc0 x0 x1 x2 = XSUM x0 := by
  unfold sout0_A_1
  rw [View.read_writes_eq_canon _ _ _ (scover0_A_1 c i arg1 harg1 arg2 harg2 arg3 harg3 arg4 harg4 arg5 harg5 arg6 harg6 hc0 x0 x1 x2)]
  unfold kernelRun0_A
  dsimp only
  sl_unfold_words
  rw [View.canon_unit_zero hz]
  simp only [View.readAt_eq_ld, harg1.read_unread, View.ld_unit_zero (S := S64x8192) hz]
  rfl

/-- its output block is computed from them as every later point's is. -/
theorem out_A (hc0 : cond0_0 i) :
    out0_A_3 c i arg1 harg1 arg2 harg2 arg3 harg3 arg4 harg4 arg5 harg5 arg6 harg6 hc0 x0 x1 x2 = OUT (XP x0) (XSUM x0) x1 x2 := by
  have h0 : ∀ B, arg5.view.readCov (kernelRun0_A c i arg1 harg1 arg2 harg2 arg3 harg3 arg4 harg4 arg5 harg5 arg6 harg6 hc0 x0 x1 x2).2.1 B
      = fun j => XP x0 (B.idx j) := fun B => by
    rw [View.readCov_eq_canon', ← sout_A_0 c i arg1 harg1 arg2 harg2 arg3 harg3 arg4 harg4 arg5 harg5 arg6 harg6 x0 x1 x2 hc0]
    unfold sout0_A_0
    rw [View.read_writes_junk_eq_canon]
  have h1 : ∀ B, arg6.view.readCov (kernelRun0_A c i arg1 harg1 arg2 harg2 arg3 harg3 arg4 harg4 arg5 harg5 arg6 harg6 hc0 x0 x1 x2).2.2.1 B
      = fun j => XSUM x0 (B.idx j) := fun B => by
    rw [View.readCov_eq_canon', ← sout_A_1 c i arg1 harg1 arg2 harg2 arg3 harg3 arg4 harg4 arg5 harg5 arg6 harg6 x0 x1 x2 hc0]
    unfold sout0_A_1
    rw [View.read_writes_junk_eq_canon]
  have e : OUT (XP x0) (XSUM x0) x1 x2
      = FIN (ACC (fun T => arg5.view.readCov (kernelRun0_A c i arg1 harg1 arg2 harg2 arg3 harg3 arg4 harg4 arg5 harg5 arg6 harg6 hc0 x0 x1 x2).2.1 (colRect T).toLoadRect)
          (fun T => arg2.view.readAt (Elt F) (rowRect T).toLoadRect (harg2.unread x1)) 32 le_rfl)
        (arg6.view.readCov (kernelRun0_A c i arg1 harg1 arg2 harg2 arg3 harg3 arg4 harg4 arg5 harg5 arg6 harg6 hc0 x0 x1 x2).2.2.1 (Rect.unit (s := S64x1) ![0, 0] S64x1.size inb_S64x1_S64x1_0_0).toLoadRect)
        (arg3.view.readAt (Elt F) (Rect.unit (s := S1) ![0] S1.size inb_S1_S1_0).toLoadRect (harg3.unread x2) i1) := by
    have h6 : (fun j => XSUM x0 ((Rect.unit (s := S64x1) ![0, 0] S64x1.size inb_S64x1_S64x1_0_0).toLoadRect.idx j)) = XSUM x0 :=
      View.ld_unit_zero (Val := Elt F) (e := .f32) (S := S64x1) hz inb_S64x1_S64x1_0_0 (XSUM x0)
    rw [scale_read]
    simp only [h0, h1, View.readAt_eq_ld, harg2.read_unread, harg3.read_unread]
    rw [h6]
    rfl
  rw [e]
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  rw [View.canon_unit_zero hz]
  rfl

end Case

end Cert.KernelIdeal.Hand

end
-- ==== Proof.Array.lean ====
/-
  What the kernel's result array ends holding: the scratch that the first grid point fills is what every later point reads, so every point's
  block is the same function of the whole activations and its own 512 columns of packed weights; the blocks tile the array.
-/
module

public import proofs.«01_k».proof.Proof.Words

@[expose] public section

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The activations as the kernel takes them: the argument reshaped to two axes. -/
def ACT (c : Dev nD) : Vec F S64x8192 .bf16 := shapeCast _ (m ((c : Thread nD τ).loc main_arg0)) shapeCasts_S64x1x8192_S64x8192

/-- The scale as the kernel takes it: the argument reshaped to one axis. -/
def SCALE (c : Dev nD) : Vec F S1 .f32 := shapeCast _ (m ((c : Thread nD τ).loc main_arg2)) shapeCasts_S_S1

/-- The packed weights. -/
def WTS (c : Dev nD) : IVec S2048x11264 8 := m ((c : Thread nD τ).loc main_arg1)

theorem V_act (c : Dev nD) : (V m c main_v0 : Vec F S64x8192 .bf16) = ACT m c := rfl
theorem V_scale (c : Dev nD) : (V m c main_v1 : Vec F S1 .f32) = SCALE m c := rfl
theorem V_wts (c : Dev nD) : (V m c main_arg1 : IVec S2048x11264 8) = WTS m c := V_main_arg1 m c

/-- Columns `512 t` to `512 t + 511` of the packed weights. -/
def WBLK (c : Dev nD) (t : Fin 22) : IVec S2048x512 8 := fun j => WTS m c (fun a => match a with
  | ⟨0, _⟩ => ⟨(j 0).val, (j 0).isLt⟩
  | ⟨1, _⟩ => ⟨512 * t.val + (j 1).val, by have h1 : (j 1).val < 512 := (j 1).isLt; have := t.isLt; show 512 * t.val + (j 1).val < 11264; omega⟩)

/-- The input windows' block indices: the activations and the scale whole at every point, the weights' column block the point's number. -/
theorem idx_in : ∀ t : Fin cfg0.N, win0_0.index t (0 : Fin 2) = 0 ∧ win0_0.index t (1 : Fin 2) = 0
    ∧ win0_1.index t (0 : Fin 2) = 0 ∧ win0_1.index t (1 : Fin 2) = t.val ∧ win0_2.index t (0 : Fin 1) = 0 :=
  (by decide +kernel : ∀ t : Fin grid0.N, _)

theorem iblk_act (c : Dev nD) (t : Fin cfg0.N) : (iblk m c 0 t : Vec F S64x8192 .bf16) = ACT m c := by
  obtain ⟨e0, e1, -⟩ := idx_in t
  funext j
  unfold iblk
  rw [View.read_apply]
  show V m c main_v0 _ = ACT m c j
  rw [V_act]
  congr 1
  funext a
  apply Fin.ext
  match a with
  | ⟨0, _⟩ => show win0_0.index t 0 * 64 + 1 * (j 0).val = (j 0).val; rw [e0]; omega
  | ⟨1, _⟩ => show win0_0.index t 1 * 8192 + 1 * (j 1).val = (j 1).val; rw [e1]; omega

theorem iblk_scale (c : Dev nD) (t : Fin cfg0.N) : (iblk m c 2 t : Vec F S1 .f32) = SCALE m c := by
  obtain ⟨-, -, -, -, e⟩ := idx_in t
  funext j
  unfold iblk
  rw [View.read_apply]
  show V m c main_v1 _ = SCALE m c j
  rw [V_scale]
  congr 1
  funext a
  apply Fin.ext
  match a with
  | ⟨0, _⟩ => show win0_2.index t 0 * 1 + 1 * (j 0).val = (j 0).val; rw [e]; omega

theorem iblk_wts (c : Dev nD) (t : Fin cfg0.N) : (iblk m c 1 t : IVec S2048x512 8) = WBLK m c (t.cast N_0) := by
  obtain ⟨-, -, e0, e1, -⟩ := idx_in t
  funext j
  unfold iblk
  rw [View.read_apply]
  show V m c main_arg1 _ = WBLK m c (t.cast N_0) j
  rw [V_main_arg1]
  unfold WBLK WTS
  congr 1
  funext a
  apply Fin.ext
  match a with
  | ⟨0, _⟩ => show win0_1.index t 0 * 2048 + 1 * (j 0).val = (j 0).val; rw [e0]; omega
  | ⟨1, _⟩ => show win0_1.index t 1 * 512 + 1 * (j 1).val = 512 * t.val + (j 1).val; rw [e1]; omega

/-- Point `t`'s output block. -/
def BLOCK (c : Dev nD) (t : Fin 22) : FVec F S64x512 .bf16 := OUT (XP (ACT m c)) (XSUM (ACT m c)) (WBLK m c t) (SCALE m c)

/-- AFTER EVERY POINT the output block is that point's and the scratch holds the permuted activations and their row sums. -/
theorem outs_eq (c : Dev nD) : ∀ (n : ℕ) (h : n < cfg0.N),
    outsAt0 m c n h = (BLOCK m c (Fin.cast N_0 ⟨n, h⟩), XP (ACT m c), XSUM (ACT m c))
  | 0, h => by
    refine (outsAt0_A m c ⟨0, h⟩ rfl).trans ?_
    rw [out_A, sout_A_0, sout_A_1, iblk_act, iblk_wts, iblk_scale]
    rfl
  | n + 1, h => by
    have hN : cfg0.N = 22 := N_0
    have hB : ¬(⟨n + 1, h⟩ : Fin cfg0.N).val % 22 = 0 := by dsimp only; omega
    have ih := outs_eq c n (Nat.lt_of_succ_lt h)
    refine (outsAt0_B m c ⟨n + 1, h⟩ hB).trans ?_
    have e : outsAt0 m c ((⟨n + 1, h⟩ : Fin cfg0.N).val - 1) (Nat.lt_of_le_of_lt (Nat.sub_le _ _) h)
        = (BLOCK m c (Fin.cast N_0 ⟨n, Nat.lt_of_succ_lt h⟩), XP (ACT m c), XSUM (ACT m c)) := ih
    rw [e]
    rw [out_B, iblk_wts, iblk_scale]
    rfl

/-- The result array. -/
def RESULT (c : Dev nD) : FVec F S64x11264 .bf16 := fun i =>
  BLOCK m c ⟨(i 1).val / 512, by have h : (i 1).val < 11264 := (i 1).isLt; omega⟩ (fun a => match a with
    | ⟨0, _⟩ => ⟨(i 0).val, (i 0).isLt⟩
    | ⟨1, _⟩ => ⟨(i 1).val % 512, Nat.mod_lt _ (by decide)⟩)

theorem G3_eq (c : Dev nD) : Value.G3 m c = RESULT m c := by
  funext i
  have h0 : (i 0).val < 64 := (i 0).isLt
  have h1 : (i 1).val < 11264 := (i 1).isLt
  have hN : cfg0.N = 22 := N_0
  have hp : Value.pt3Of i = (i 1).val / 512 := by show 22 * ((i 0).val / 64 - 0) + 1 * ((i 1).val / 512 - 0) = _; omega
  have hlt : Value.pt3Of i < cfg0.N := by rw [hp, hN]; omega
  unfold Value.G3
  rw [dif_pos hlt, ← Value.outsAt0_sweep m c (Value.pt3Of i) hlt, outs_eq]
  show BLOCK m c (Fin.cast N_0 ⟨Value.pt3Of i, hlt⟩) (Value.loc3Of i) = RESULT m c i
  unfold RESULT
  have eT : Fin.cast N_0 ⟨Value.pt3Of i, hlt⟩ = (⟨(i 1).val / 512, by omega⟩ : Fin 22) := Fin.ext hp
  rw [eT]
  congr 1
  funext a
  apply Fin.ext
  match a with
  | ⟨0, _⟩ => show (i 0).val % 64 = (i 0).val; omega
  | ⟨1, _⟩ => rfl

/-- THE RUN, read. -/
theorem run : θ_run defs (onTc (τ := τ) (main (F := F))) ⟨m, fun _ => 0, ρ⟩ fun r => ∀ c : Dev nD,
      r.2.mem ((c : Thread nD τ).loc main_v2) = RESULT m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (G3_eq m c), (h c).2⟩) (Value.run m ρ)

end Cert.KernelIdeal.Hand

end
-- ==== Proof.Codes.lean ====
/-
  The kernel's words over the extended reals, read at an element. An unpacked tile's row `k` is the two-bit code number `k / 64` of the
  packed row `k % 64`; the permutation matrix has its one in column `d` at row `4 (d % 64) + d / 64`; a permuted tile's column `d` is the
  tile's column of that number.
-/
module

public import proofs.«01_k».proof.Proof.Words
public import Idealize.ShloMosaic.Lib.BitcastFour
public import Idealize.ShloMosaic.Lib.MatmulPlain
public import Idealize.ShloMosaic.Lib.IdealHost

@[expose] public section

set_option maxRecDepth 16384

noncomputable section

namespace Cert.KernelIdeal.Hand

open Idealize.ShloMosaic Idealize.ShloMosaic.TcCoe Idealize.SL.Sem
open Idealize.ShloMosaic.ValueIdx
open Cert.KernelIdeal Cert.KernelIdeal.Gen
open scoped BigOperators

/-- Two-bit code number `j` of a byte, lowest first. -/
def code (j : ℕ) (b : BitVec 8) : ℕ := (b.toNat >>> (2 * j)) % 4

/-! ## The fields of a packed byte -/

/-- The mask keeps the two lowest bits of every byte. -/
theorem mask_bit : ∀ q : Fin 32, (50529027#32 : BitVec 32).getLsbD q.val = decide (q.val % 8 < 2) := by decide

theorem three_bit : ∀ q : Fin 8, (3#8 : BitVec 8).getLsbD q.val = decide (q.val < 2) := by decide

/-- Words read as bytes: bit `q` of byte row `p` is bit `8 (p % 4) + q` of word row `p / 4`. -/
theorem bitcast_32_8_getLsbD (x : IVec S16x512 32) (p : Fin 64) (n : Fin 512) (q : ℕ) (hq : q < 8) :
    (bitcast S64x512 8 x bitcasts_S16x512_w32_S64x512_w8 (ix2 p n)).getLsbD q
      = (x (ix2 (⟨p.val / 4, by have := p.isLt; omega⟩ : Fin 16) n)).getLsbD (8 * (p.val % 4) + q) := by
  rw [bitcast_getLsbD x _ _ q hq (by decide)]
  have er : (S64x512.row (ix2 p n)) = p.val := rfl
  have e1 : (S64x512.row (ix2 p n) * 8 + q) % 32 = 8 * (p.val % 4) + q := by rw [er]; omega
  have e2 : (S64x512.row (ix2 p n) * 8 + q) / 32 = p.val / 4 := by rw [er]; omega
  rw [e1]
  congr 2
  funext c
  match c with
  | ⟨0, _⟩ => exact Fin.ext ((Shape.Bitcasts.srcIdx_row _ _ _ _ ⟨0, Nat.zero_lt_two⟩ rfl).trans e2)
  | ⟨1, _⟩ => exact Fin.ext (Shape.Bitcasts.srcIdx_other _ _ _ _ ⟨1, Nat.one_lt_two⟩ (by show ¬ 1 + 2 = 2; omega))

/-- Shifting and masking the words shifts and masks every byte. -/
theorem FIELD_apply (w : IVec S64x512 8) (j : Fin 4) (p : Fin 64) (n : Fin 512) :
    FIELD w (BitVec.ofNat 32 (2 * j.val)) (ix2 p n) = (w (ix2 p n) >>> (2 * j.val)) &&& 3#8 := by
  apply BitVec.eq_of_getLsbD_eq
  intro q hq
  have hj := j.isLt
  have hp := p.isLt
  unfold FIELD
  rw [bitcast_32_8_getLsbD _ p n q hq]
  show (IntOp.andi (IntOp.shrui .vector (bitcast S16x512 32 w bitcasts_S64x512_w8_S16x512_w32 (ix2 (⟨p.val / 4, _⟩ : Fin 16) n)) (BitVec.ofNat 32 (2 * j.val))) 50529027#32).getLsbD (8 * (p.val % 4) + q) = _
  have es : (BitVec.ofNat 32 (2 * j.val)).toNat = 2 * j.val := by rw [BitVec.toNat_ofNat]; omega
  have hs : IntOp.shrui .vector (bitcast S16x512 32 w bitcasts_S64x512_w8_S16x512_w32 (ix2 (⟨p.val / 4, by omega⟩ : Fin 16) n)) (BitVec.ofNat 32 (2 * j.val))
      = (bitcast S16x512 32 w bitcasts_S64x512_w8_S16x512_w32 (ix2 (⟨p.val / 4, by omega⟩ : Fin 16) n)) >>> (2 * j.val) := by
    unfold IntOp.shrui
    rw [if_pos (by rw [es]; omega), BitVec.ushiftRight_eq', es]
  rw [hs]
  unfold IntOp.andi
  rw [BitVec.getLsbD_and, BitVec.getLsbD_and, BitVec.getLsbD_ushiftRight, BitVec.getLsbD_ushiftRight,
    mask_bit ⟨8 * (p.val % 4) + q, by omega⟩, three_bit ⟨q, hq⟩]
  by_cases h2 : q < 2
  · rw [bitcast_8_32_getLsbD_ix2 w _ _ n (2 * j.val + (8 * (p.val % 4) + q)) (by omega) p (by dsimp only; omega)]
    have e : (2 * j.val + (8 * (p.val % 4) + q)) % 8 = 2 * j.val + q := by omega
    have h3 : (8 * (p.val % 4) + q) % 8 < 2 := by omega
    rw [e, decide_eq_true h2, decide_eq_true h3]
  · have h3 : ¬ (8 * (p.val % 4) + q) % 8 < 2 := by omega
    rw [decide_eq_false h2, decide_eq_false h3, Bool.and_false, Bool.and_false]

/-- A masked byte, as a signed number, is its code. -/
theorem field_toInt (b : BitVec 8) (j : ℕ) : ((b >>> (2 * j)) &&& 3#8).toInt = (code j b : ℤ) := by
  have e : ((b >>> (2 * j)) &&& 3#8).toNat = code j b := by
    rw [BitVec.toNat_and, BitVec.toNat_ushiftRight]
    exact Nat.and_two_pow_sub_one_eq_mod _ 2
  have hc : code j b < 4 := Nat.mod_lt _ (by decide)
  rw [BitVec.toInt_eq_toNat_of_lt (by rw [e]; omega), e]

/-- An unpacked tile at a row and a column. -/
theorem UNPACK_apply (w : IVec S64x512 8) (k : Fin 256) (n : Fin 512) :
    UNPACK (F := Ideal) w (ix2 k n)
      = (((code (k.val / 64) (w (ix2 (⟨k.val % 64, Nat.mod_lt _ (by decide)⟩ : Fin 64) n)) : ℕ) : ℝ) : EReal) := by
  have hk := k.isLt
  refine (concatenate_ofFn_apply (t := S256x512) (s₁ := S64x512) 0
    (fun j : Fin 4 => (sitofp .bf16 (FIELD w (BitVec.ofNat 32 (2 * j.val))) : FVec Ideal S64x512 .bf16))
    concatenates_S64x512_S64x512_S64x512_S64x512_S256x512_d0 rfl 64 rfl (ix2 k n) ⟨k.val / 64, by omega⟩ rfl
    (ix2 (⟨k.val % 64, Nat.mod_lt _ (by decide)⟩ : Fin 64) n) rfl (fun b hb => ?_)).trans ?_
  · match b with
    | ⟨0, _⟩ => exact absurd rfl hb
    | ⟨1, _⟩ => rfl
  · show (((FIELD w (BitVec.ofNat 32 (2 * (⟨k.val / 64, _⟩ : Fin 4).val)) (ix2 (⟨k.val % 64, _⟩ : Fin 64) n)).toInt : ℝ) : EReal) = _
    rw [FIELD_apply, field_toInt]
    push_cast; rfl

/-! ## The permutation -/

/-- The row of the one in a column of the permutation matrix, as the kernel computes it from the column's number. -/
def permCol (d : BitVec 32) : BitVec 32 :=
  let m : BitVec 32 := Scalar.select (Scalar.cmpi .eq (64#32 : BitVec 32) 0#32) 1#32 64#32
  let r := IntOp.remsi .vector d m
  let r' : BitVec 32 := if IntOp.andi (IntOp.xori (IntOp.cmpi .slt r 0#32) (Scalar.cmpi .slt m 0#32)) (IntOp.cmpi .ne r 0#32) = 1
    then IntOp.addi r m else r
  let q := IntOp.divsi .vector d 64#32
  let sg := IntOp.subi ((IntOp.cmpi .sgt d 0#32).setWidth 32) ((IntOp.cmpi .slt d 0#32).setWidth 32)
  let q' : BitVec 32 := if IntOp.andi (IntOp.cmpi .ne sg (Scalar.subi (Scalar.extui (Scalar.cmpi .sgt (64#32 : BitVec 32) 0#32)) (Scalar.extui (Scalar.cmpi .slt (64#32 : BitVec 32) 0#32))))
    (IntOp.cmpi .ne (IntOp.remsi .vector d 64#32) 0#32) = 1 then IntOp.subi q 1#32 else q
  IntOp.addi (IntOp.muli 4#32 r') q'

theorem permCol_eq : ∀ d : Fin 256, permCol (BitVec.ofNat 32 d.val) = BitVec.ofNat 32 (4 * (d.val % 64) + d.val / 64) := by
  decide +kernel

theorem k0_pay2_apply (s d : Fin 256) :
    k0_pay2 (ix2 s d) = if s.val = 4 * (d.val % 64) + d.val / 64 then 1#1 else 0#1 := by
  have hs := s.isLt
  have hd := d.isLt
  have e : k0_pay2 (ix2 s d) = IntOp.cmpi .eq (iota .tc S256x256 32 [0] iota_S256x256_d0_w32 (ix2 s d))
      (permCol (iota .tc S256x256 32 [1] iota_S256x256_d1_w32 (ix2 s d))) := rfl
  rw [e, iota_single_apply, iota_single_apply]
  show IntOp.cmpi .eq (BitVec.ofNat 32 s.val) (permCol (BitVec.ofNat 32 d.val)) = _
  rw [permCol_eq d]
  have h : (BitVec.ofNat 32 s.val = BitVec.ofNat 32 (4 * (d.val % 64) + d.val / 64)) ↔ s.val = 4 * (d.val % 64) + d.val / 64 := by
    constructor
    · intro h
      have := congrArg BitVec.toNat h
      rw [BitVec.toNat_ofNat, BitVec.toNat_ofNat] at this
      omega
    · intro h; rw [h]
  by_cases hh : s.val = 4 * (d.val % 64) + d.val / 64
  · rw [if_pos hh, ← hh]; simp [IntOp.cmpi]
  · rw [if_neg hh]
    show BitVec.ofBool (BitVec.ofNat 32 s.val == BitVec.ofNat 32 (4 * (d.val % 64) + d.val / 64)) = 0#1
    rw [beq_eq_false_iff_ne.mpr fun x => hh (h.mp x)]; rfl

/-- The permutation matrix at an element. -/
theorem PERM_apply (s d : Fin 256) :
    PERM (F := Ideal) (ix2 s d) = if s.val = 4 * (d.val % 64) + d.val / 64 then 1 else 0 := by
  show ((((k0_pay2 (ix2 s d)).setWidth 32).toInt : ℝ) : EReal) = _
  rw [k0_pay2_apply]
  by_cases h : s.val = 4 * (d.val % 64) + d.val / 64
  · rw [if_pos h, if_pos h]
    have : (BitVec.setWidth 32 (1#1 : BitVec 1)).toInt = 1 := by decide
    rw [this]; norm_num
  · rw [if_neg h, if_neg h]
    have : (BitVec.setWidth 32 (0#1 : BitVec 1)).toInt = 0 := by decide
    rw [this]; norm_num

/-- A permuted tile at an element: the tile's column `4 (d % 64) + d / 64`. -/
theorem TILE_apply (x : FVec Ideal S64x256 .bf16) (i : Fin 64) (d : Fin 256) :
    TILE x (ix2 i d) = x (ix2 i (⟨4 * (d.val % 64) + d.val / 64, by have := d.isLt; omega⟩ : Fin 256)) := by
  unfold TILE
  rw [shapeCast_self, shapeCast_self]
  show FloatOps.matmul (F := Ideal) (DotDims.plain 64 256 256) none x PERM (constant S64x256 .f32 0x00000000#32) (ix2 i d) = _
  rw [Ideal.matmul_plain_apply]
  show Ideal.ofBits .f32 0x00000000#32 + _ = _
  rw [Ideal.ofBits_zero_f32, zero_add]
  simp only [PERM_apply, mul_ite, mul_one, mul_zero]
  rw [Finset.sum_eq_single (⟨4 * (d.val % 64) + d.val / 64, by have := d.isLt; omega⟩ : Fin 256)]
  · rw [if_pos rfl]
  · intro b _ hb
    rw [if_neg fun h => hb (Fin.ext h)]
  · intro h; exact absurd (Finset.mem_univ _) h

end Cert.KernelIdeal.Hand

end
-- ==== Proof.Sums.lean ====
/-
  One grid point's block over the extended reals, read at an element, and the rearrangement that makes it the plain product: the kernel's
  sum over 32 tiles of 256 rows is the sum over the four codes of every packed row, and subtracting the row's sum of activations subtracts
  one from every code.
-/
module

public import proofs.«01_k».proof.Proof.Codes

@[expose] public section

set_option maxRecDepth 16384

noncomputable section

namespace Cert.KernelIdeal.Hand

open Idealize.ShloMosaic Idealize.ShloMosaic.TcCoe Idealize.SL.Sem
open Idealize.ShloMosaic.ValueIdx
open Cert.KernelIdeal Cert.KernelIdeal.Gen
open scoped BigOperators

/-! ## Positions -/

/-- Column `256 T + d` of the activations. -/
abbrev col (T : Fin 32) (d : Fin 256) : Fin 8192 := ⟨256 * T.val + d.val, by have := T.isLt; have := d.isLt; omega⟩
/-- The tile column the permutation moves to column `d`. -/
abbrev src (d : Fin 256) : Fin 256 := ⟨4 * (d.val % 64) + d.val / 64, by have := d.isLt; omega⟩
/-- Packed row `64 T + p`. -/
abbrev prow (T : Fin 32) (p : Fin 64) : Fin 2048 := ⟨64 * T.val + p.val, by have := T.isLt; have := p.isLt; omega⟩
/-- The packed row of a tile that unpacked row `k` comes from. -/
abbrev low (k : Fin 256) : Fin 64 := ⟨k.val % 64, Nat.mod_lt _ (by decide)⟩
/-- The activation that meets code `j` of packed row `k`. -/
abbrev lane (j : Fin 4) (k : Fin 2048) : Fin 8192 := ⟨4 * k.val + j.val, by have := j.isLt; have := k.isLt; omega⟩

/-- Tile and unpacked row, as code number and packed row. -/
def tileEquiv : Fin 32 × Fin 256 ≃ Fin 4 × Fin 2048 where
  toFun p := (⟨p.2.val / 64, by have := p.2.isLt; omega⟩, prow p.1 (low p.2))
  invFun p := (⟨p.2.val / 64, by have := p.2.isLt; omega⟩,
    ⟨64 * p.1.val + p.2.val % 64, by have := p.1.isLt; omega⟩)
  left_inv p := by
    have h1 := p.1.isLt; have h2 := p.2.isLt
    refine Prod.ext (Fin.ext ?_) (Fin.ext ?_)
    · show (64 * p.1.val + p.2.val % 64) / 64 = p.1.val; omega
    · show 64 * (p.2.val / 64) + (64 * p.1.val + p.2.val % 64) % 64 = p.2.val; omega
  right_inv p := by
    have h1 := p.1.isLt; have h2 := p.2.isLt
    refine Prod.ext (Fin.ext ?_) (Fin.ext ?_)
    · show (64 * p.1.val + p.2.val % 64) / 64 = p.1.val; omega
    · show 64 * (p.2.val / 64) + (64 * p.1.val + p.2.val % 64) % 64 = p.2.val; omega

/-- Code number and packed row, as the activation they meet. -/
def laneEquiv : Fin 4 × Fin 2048 ≃ Fin 8192 where
  toFun p := lane p.1 p.2
  invFun K := (⟨K.val % 4, Nat.mod_lt _ (by decide)⟩, ⟨K.val / 4, by have := K.isLt; omega⟩)
  left_inv p := by
    have h1 := p.1.isLt
    refine Prod.ext (Fin.ext ?_) (Fin.ext ?_)
    · show (4 * p.2.val + p.1.val) % 4 = p.1.val; omega
    · show (4 * p.2.val + p.1.val) / 4 = p.2.val; omega
  right_inv K := Fin.ext (by show 4 * (K.val / 4) + K.val % 4 = K.val; omega)

/-! ## The block at an element -/

theorem xtile_apply (x : FVec Ideal S64x8192 .bf16) (T : Fin 32) (i : Fin 64) (d : Fin 256) :
    xtile (F := Ideal) x T (ix2 i d) = x (ix2 i (col T d)) := by
  show x ((colRect T).emb (ix2 i d)) = _
  congr 1
  funext a
  apply Fin.ext
  match a with
  | ⟨0, _⟩ => show 0 + 1 * i.val = i.val; omega
  | ⟨1, _⟩ => show 256 * T.val + 1 * d.val = 256 * T.val + d.val; omega

theorem wtile_apply (w : IVec S2048x512 8) (T : Fin 32) (p : Fin 64) (n : Fin 512) :
    wtile w T (ix2 p n) = w (ix2 (prow T p) n) := by
  show w ((rowRect T).idx (ix2 p n)) = _
  congr 1
  funext a
  apply Fin.ext
  match a with
  | ⟨0, _⟩ => show 64 * T.val + 1 * p.val = 64 * T.val + p.val; omega
  | ⟨1, _⟩ => show 0 + 1 * n.val = n.val; omega

/-- The permuted activations at an element. -/
theorem XP_apply (x : FVec Ideal S64x8192 .bf16) (T : Fin 32) (i : Fin 64) (d : Fin 256) :
    XP x (ix2 i (col T d)) = x (ix2 i (col T (src d))) := by
  have hd := d.isLt
  have e1 : (256 * T.val + d.val) / 256 = T.val := by omega
  have e2 : (256 * T.val + d.val) % 256 = d.val := by omega
  have e : XP x (ix2 i (col T d)) = TILE (xtile x T) (ix2 i d) := by
    unfold XP
    have eT : (⟨((ix2 i (col T d) : S64x8192.Idx) 1).val / 256, by show (256 * T.val + d.val) / 256 < 32; rw [e1]; exact T.isLt⟩ : Fin 32) = T := Fin.ext e1
    rw [eT]
    congr 1
    funext a
    apply Fin.ext
    match a with
    | ⟨0, _⟩ => rfl
    | ⟨1, _⟩ => exact e2
  rw [e, TILE_apply, xtile_apply]

/-- One tile's product. -/
theorem tile_dot (xb : FVec Ideal S64x256 .bf16) (w : IVec S64x512 8) (i : Fin 64) (n : Fin 512) :
    matmul (F := Ideal) dot_S64x256_S256x512_S64x512_1_0_0_1_n_n none xb (UNPACK w) (constant S64x512 .f32 0x00000000#32) (ix2 i n)
      = ∑ k : Fin 256, xb (ix2 i k) * (((code (k.val / 64) (w (ix2 (low k) n)) : ℕ) : ℝ) : EReal) := by
  show FloatOps.matmul (F := Ideal) (DotDims.plain 64 256 512) none xb (UNPACK w) (constant S64x512 .f32 0x00000000#32) (ix2 i n) = _
  rw [Ideal.matmul_plain_apply]
  show Ideal.ofBits .f32 0x00000000#32 + _ = _
  rw [Ideal.ofBits_zero_f32, zero_add]
  exact Finset.sum_congr rfl fun k _ => by rw [UNPACK_apply]

/-- The accumulator after `n` tiles. -/
theorem ACC_apply (xb : Fin 32 → FVec Ideal S64x256 .bf16) (wb : Fin 32 → IVec S64x512 8) (i : Fin 64) (c : Fin 512) :
    ∀ (n : ℕ) (h : n ≤ 32), ACC xb wb n h (ix2 i c) = ∑ T : Fin n, ∑ k : Fin 256,
      xb (T.castLE h) (ix2 i k) * (((code (k.val / 64) (wb (T.castLE h) (ix2 (low k) c)) : ℕ) : ℝ) : EReal)
  | 0, _ => by
    show Ideal.ofBits .f32 0x00000000#32 = _
    rw [Ideal.ofBits_zero_f32]; simp
  | n + 1, h => by
    have e : ACC xb wb (n + 1) h (ix2 i c) = ACC xb wb n (Nat.le_of_succ_le h) (ix2 i c)
        + matmul (F := Ideal) dot_S64x256_S256x512_S64x512_1_0_0_1_n_n none (xb ⟨n, h⟩) (UNPACK (wb ⟨n, h⟩)) (constant S64x512 .f32 0x00000000#32) (ix2 i c) := rfl
    rw [e, ACC_apply xb wb i c n (Nat.le_of_succ_le h), tile_dot, Fin.sum_univ_castSucc (n := n)]
    rfl

/-- The row sums. -/
theorem XSUM_apply (x : FVec Ideal S64x8192 .bf16) (i : Fin 64) :
    XSUM x (ix2 i (0 : Fin 1)) = ∑ K : Fin 8192, x (ix2 i K) := by
  unfold XSUM k0_pay40
  dsimp only
  rw [shapeCast_self, shapeCast_self]
  rw [shapeCast_apply _ shapeCasts_S64_S64x1 (ix2 i (0 : Fin 1)) (ix1 i) (by
    rw [Shape.rowMajor_val_two, Shape.rowMajor_val_one]; show i.val = i.val * 1 + 0; omega)]
  refine (Ideal.multiReduction_add_single (extf .f32 x bitsLt_bf16_f32) _ reduces_S64x8192_S64 _ _ (ix1 i)).trans ?_
  refine Finset.sum_congr rfl fun K _ => ?_
  show x _ = x _
  congr 1
  funext a
  match a with
  | ⟨0, _⟩ => exact Fin.ext rfl
  | ⟨1, _⟩ => exact Fin.ext rfl

/-- A grid point's block at an element. -/
theorem OUT_apply (x : FVec Ideal S64x8192 .bf16) (w : IVec S2048x512 8) (s : FVec Ideal S1 .f32) (i : Fin 64) (n : Fin 512) :
    OUT (XP x) (XSUM x) w s (ix2 i n)
      = ((∑ T : Fin 32, ∑ k : Fin 256, x (ix2 i (col T (src k))) * (((code (k.val / 64) (w (ix2 (prow T (low k)) n)) : ℕ) : ℝ) : EReal))
          - ∑ K : Fin 8192, x (ix2 i K)) * s i1 := by
  have e : OUT (XP x) (XSUM x) w s (ix2 i n)
      = (ACC (xtile (XP x)) (wtile w) 32 le_rfl (ix2 i n) - broadcastTo S64x512 (XSUM x) broadcasts_S64x1_S64x512 (ix2 i n)) * s i1 := rfl
  rw [e, ACC_apply, broadcastTo_apply (XSUM x) broadcasts_S64x1_S64x512 (ix2 i n) (ix2 i (0 : Fin 1)) (fun a => by
    match a with
    | ⟨0, _⟩ => rfl
    | ⟨1, _⟩ => rfl), XSUM_apply]
  congr 2
  refine Finset.sum_congr rfl fun T _ => Finset.sum_congr rfl fun k _ => ?_
  have eT : T.castLE (le_rfl : 32 ≤ 32) = T := rfl
  rw [eT, xtile_apply, XP_apply, wtile_apply]

/-! ## The rearrangement -/

/-- A finite sum of reals, cast, is the sum of the casts. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- Over the reals the tiles' products less the row sum are the product with the codes less one. -/
theorem regroup_real (a : Fin 8192 → ℝ) (c : Fin 4 → Fin 2048 → ℝ) :
    (∑ T : Fin 32, ∑ k : Fin 256, a (col T (src k)) * c ⟨k.val / 64, by have := k.isLt; omega⟩ (prow T (low k))) - ∑ K : Fin 8192, a K
      = ∑ j : Fin 4, ∑ k : Fin 2048, a (lane j k) * (c j k - 1) := by
  have e1 : (∑ T : Fin 32, ∑ k : Fin 256, a (col T (src k)) * c ⟨k.val / 64, by have := k.isLt; omega⟩ (prow T (low k)))
      = ∑ p : Fin 4 × Fin 2048, a (lane p.1 p.2) * c p.1 p.2 := by
    rw [← Equiv.sum_comp tileEquiv, Fintype.sum_prod_type]
    refine Finset.sum_congr rfl fun T _ => Finset.sum_congr rfl fun k _ => ?_
    have el : col T (src k) = lane (tileEquiv (T, k)).1 (tileEquiv (T, k)).2 := Fin.ext (by
      show 256 * T.val + (4 * (k.val % 64) + k.val / 64) = 4 * (64 * T.val + k.val % 64) + k.val / 64; omega)
    rw [el]; rfl
  have e2 : (∑ K : Fin 8192, a K) = ∑ p : Fin 4 × Fin 2048, a (lane p.1 p.2) := (Equiv.sum_comp laneEquiv a).symm
  rw [e1, e2, ← Finset.sum_sub_distrib, Fintype.sum_prod_type]
  exact Finset.sum_congr rfl fun j _ => Finset.sum_congr rfl fun k _ => by ring

/-- The same over the extended reals, for real activations. -/
theorem regroup (x : Fin 8192 → EReal) (hx : ∀ K, ∃ r : ℝ, x K = (r : EReal)) (c : Fin 4 → Fin 2048 → ℝ) :
    (∑ T : Fin 32, ∑ k : Fin 256, x (col T (src k)) * ((c ⟨k.val / 64, by have := k.isLt; omega⟩ (prow T (low k)) : ℝ) : EReal)) - ∑ K : Fin 8192, x K
      = ∑ j : Fin 4, ∑ k : Fin 2048, x (lane j k) * ((c j k : ℝ) - 1 : EReal) := by
  choose a ha using hx
  obtain rfl : x = fun K => (a K : EReal) := funext ha
  have h := congrArg (fun r : ℝ => (r : EReal)) (regroup_real a c)
  simp only [EReal.coe_sub, coe_sum, EReal.coe_mul, EReal.coe_one] at h
  exact h

end Cert.KernelIdeal.Hand

end
-- ==== Proof.Equal.lean ====
/-
  The reference's result read at an element, and the kernel's result array equal to it for finite activations.
-/
module

public import proofs.«01_k».proof.Proof.Array
public import proofs.«01_k».proof.Proof.Sums
public import proofs.«01_k».proof.Proof.Gen.ReferenceIdeal.Read
public import proofs.«01_k».proof.Pre_x_finite
public import Idealize.ShloMosaic.Lib.TwoAxisContraction

@[expose] public section

set_option maxRecDepth 16384

noncomputable section

namespace Cert.Equal

open Idealize.ShloMosaic Idealize.ShloMosaic.TcCoe Idealize.SL.Sem
open Idealize.ShloMosaic.ValueIdx
open Cert.KernelIdeal.Hand
open scoped BigOperators

/-! ## The reference at an element -/

section Reference

open Cert.ReferenceIdeal Cert.ReferenceIdeal.Read

variable (x0 : FVec Ideal S64x1x8192 .bf16) (x1 : IVec S2048x11264 8) (x2 : FVec Ideal S_ .f32)

/-- The host's shifted and masked word, as a number, is the byte's code. -/
theorem host_code (b : BitVec 8) (j : Fin 4) :
    (IntOp.andi (IntOp.shrui .host (b.setWidth 32) (IntOp.muli (BitVec.ofNat 32 j.val) 2#32)) 3#32).toNat = code j.val b := by
  have hj := j.isLt
  have es : IntOp.muli (BitVec.ofNat 32 j.val) 2#32 = BitVec.ofNat 32 (2 * j.val) :=
    (by decide : ∀ j : Fin 4, IntOp.muli (BitVec.ofNat 32 j.val) 2#32 = BitVec.ofNat 32 (2 * j.val)) j
  have en : (BitVec.ofNat 32 (2 * j.val)).toNat = 2 * j.val := by rw [BitVec.toNat_ofNat]; omega
  rw [es]
  unfold IntOp.shrui IntOp.andi
  rw [if_pos (by rw [en]; omega), BitVec.ushiftRight_eq', en, BitVec.toNat_and, BitVec.toNat_ushiftRight, BitVec.toNat_setWidth]
  have hb : b.toNat % 2 ^ 32 = b.toNat := Nat.mod_eq_of_lt (by have := b.isLt; omega)
  rw [hb]
  exact Nat.and_two_pow_sub_one_eq_mod _ 2

/-- The unpacked weights. -/
theorem weight_apply (j : Fin 4) (k : Fin 2048) (n : Fin 11264) :
    val_main_v15 (F := Ideal) x1 (ix3 j k n) = (((code j.val (x1 (ix2 k n)) : ℕ) : ℝ) : EReal) - 1 := by
  have e13 : val_main_v13 (F := Ideal) x1 (ix3 j k n) = (((val_main_v12 (F := Ideal) x1 (ix3 j k n)).toNat : ℝ) : EReal) := rfl
  have e14 : val_main_v14 (F := Ideal) (ix3 j k n) = 1 := by
    rw [val_main_v14_apply, val_main_cst_apply]; exact Ideal.ofBits_one_bf16
  have e15 : val_main_v15 (F := Ideal) x1 (ix3 j k n) = val_main_v13 (F := Ideal) x1 (ix3 j k n) - val_main_v14 (F := Ideal) (ix3 j k n) := rfl
  rw [e15, e13, e14, val_main_v12_apply, val_main_v11_apply, val_main_c_0_apply, val_main_v10_apply, val_main_v9_apply, val_main_v8_apply,
    val_main_v7_apply, val_main_v6_apply, val_main_v5_apply, val_main_v4_apply, val_main_v3_apply, val_main_v2_apply, val_main_c_apply]
  have ei : idx_main_v6 (idx_main_v8 (ix3 j k n)) = ix2 k n := by
    funext a
    match a with
    | ⟨0, _⟩ => rfl
    | ⟨1, _⟩ => rfl
  rw [ei, ← host_code (x1 (ix2 k n)) j]

/-- The activations, by code number. -/
theorem act_apply (j : Fin 4) (i : Fin 64) (k : Fin 2048) :
    val_main_v1 (F := Ideal) x0 (ix3 j i k) = x0 (ix3 i (0 : Fin 1) (lane j k)) := by
  rw [val_main_v1_apply, val_main_v0_apply]
  have hi := i.isLt
  have hj := j.isLt
  have hk := k.isLt
  congr 1
  funext a
  apply Fin.ext
  match a with
  | ⟨0, _⟩ => show ((i.val * 2048 + k.val) * 4 + j.val) / 8192 = i.val; omega
  | ⟨1, _⟩ => rfl
  | ⟨2, _⟩ => show ((i.val * 2048 + k.val) * 4 + j.val) % 8192 = 4 * k.val + j.val; omega

/-- The reference's product. -/
theorem dot_apply (i : Fin 64) (n : Fin 11264) :
    val_main_v16 (F := Ideal) x0 x1 (ix2 i n)
      = ∑ j : Fin 4, ∑ k : Fin 2048, x0 (ix3 i (0 : Fin 1) (lane j k)) * ((((code j.val (x1 (ix2 k n)) : ℕ) : ℝ) : EReal) - 1) := by
  unfold val_main_v16
  simp only [Host.dotGeneral]
  rw [Ideal.dotGeneral_apply, sum_contr2 dot_S4x64x2048_S4x2048x11264_S64x11264_02_01_1_2_n_n 4 2048 rfl rfl rfl]
  refine Finset.sum_congr rfl fun j _ => Finset.sum_congr rfl fun k _ => ?_
  rw [← act_apply x0 j i k, ← weight_apply x1 j k n]
  congr 2
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The reference's result. -/
theorem ref_apply (i : Fin 64) (n : Fin 11264) :
    val_main_v19 (F := Ideal) x0 x1 x2 (ix2 i n)
      = (∑ j : Fin 4, ∑ k : Fin 2048, x0 (ix3 i (0 : Fin 1) (lane j k)) * ((((code j.val (x1 (ix2 k n)) : ℕ) : ℝ) : EReal) - 1)) * x2 ix0 := by
  have e : val_main_v19 (F := Ideal) x0 x1 x2 (ix2 i n) = val_main_v16 (F := Ideal) x0 x1 (ix2 i n) * val_main_v17 (F := Ideal) x2 (ix2 i n) := rfl
  rw [e, dot_apply, val_main_v17_apply]

end Reference

/-! ## The precondition -/

/-- The pattern of the precondition's bound is the extended reals' top. -/
theorem ofBits_inf : Ideal.ofBits .bf16 0x7F80#16 = ⊤ := by simp [Ideal.ofBits, Ideal.ieee]

/-- Where the precondition holds every activation is a real number. -/
theorem real_of_pre [Cert.Pre_x_finite.Facts] (x0 : FVec Ideal ⟨3, ![64, 1, 8192]⟩ .bf16) (x1 : IVec ⟨2, ![2048, 11264]⟩ 8)
    (x2 : FVec Ideal ⟨0, ![]⟩ .f32) (h : Cert.Pre_x_finite.fn (F := Ideal) x0 x1 x2 = fun _ => 1#1) (i : (⟨3, ![64, 1, 8192]⟩ : Shape).Idx) :
    ∃ r : ℝ, x0 i = (r : EReal) := by
  have hi : Cert.Pre_x_finite.fn (F := Ideal) x0 x1 x2 i = 1#1 := congrFun h i
  have hc : BitVec.ofBool (decide (max (x0 i) (-(x0 i)) < Ideal.ofBits .bf16 0x7F80#16)) = 1#1 := hi
  have hlt : max (x0 i) (-(x0 i)) < ⊤ := by
    by_contra hn
    rw [ofBits_inf, decide_eq_false hn] at hc
    exact absurd hc (by decide)
  have h1 : x0 i ≠ ⊤ := ((le_max_left _ _).trans_lt hlt).ne
  have h2 : x0 i ≠ ⊥ := fun e => by
    have := (le_max_right (x0 i) (-(x0 i))).trans_lt hlt
    rw [e, EReal.neg_bot] at this
    exact lt_irrefl _ this
  exact ⟨(x0 i).toReal, (EReal.coe_toReal h1 h2).symm⟩

/-! ## The kernel's result -/

section Kernel

open Cert.KernelIdeal Cert.KernelIdeal.Gen

variable (m : (ℓ : Loc nD τ sig) → Buf (Elt Ideal) ℓ)

theorem ACT_apply (c : Dev nD) (i : Fin 64) (K : Fin 8192) :
    ACT m c (ix2 i K) = (m ((c : Thread nD τ).loc main_arg0) : FVec Ideal S64x1x8192 .bf16) (ix3 i (0 : Fin 1) K) := by
  unfold ACT
  exact shapeCast_apply _ shapeCasts_S64x1x8192_S64x8192 (ix2 i K) (ix3 i (0 : Fin 1) K) (by
    rw [Shape.rowMajor_val_two, Shape.rowMajor_val_three]
    show (i.val * 1 + 0) * 8192 + K.val = i.val * 8192 + K.val; omega)

theorem SCALE_apply (c : Dev nD) : SCALE m c i1 = (m ((c : Thread nD τ).loc main_arg2) : FVec Ideal S_ .f32) ix0 := by
  unfold SCALE shapeCast
  congr 1

/-- THE KERNEL'S RESULT IS THE REFERENCE'S, for real activations. -/
theorem result_eq (c : Dev nD)
    (hx : ∀ i, ∃ r : ℝ, (m ((c : Thread nD τ).loc main_arg0) : FVec Ideal S64x1x8192 .bf16) i = (r : EReal)) :
    (RESULT m c : FVec Ideal S64x11264 .bf16)
      = Cert.ReferenceIdeal.Read.val_main_v19 (F := Ideal) (m ((c : Thread nD τ).loc main_arg0)) (m ((c : Thread nD τ).loc main_arg1))
          (m ((c : Thread nD τ).loc main_arg2)) := by
  funext y
  obtain ⟨i, n, rfl⟩ : ∃ (i : Fin 64) (n : Fin 11264), y = ix2 i n := ⟨y 0, y 1, eq_ix2 y⟩
  have hn := n.isLt
  refine Eq.trans ?_ (ref_apply _ _ _ i n).symm
  have e : RESULT m c (ix2 i n) = OUT (XP (ACT m c)) (XSUM (ACT m c)) (WBLK m c ⟨n.val / 512, by omega⟩) (SCALE m c)
      (ix2 i (⟨n.val % 512, Nat.mod_lt _ (by decide)⟩ : Fin 512)) := by
    unfold RESULT BLOCK
    congr 1
    funext a
    match a with
    | ⟨0, _⟩ => rfl
    | ⟨1, _⟩ => rfl
  have ew : ∀ k : Fin 2048, WBLK m c ⟨n.val / 512, by omega⟩ (ix2 k (⟨n.val % 512, Nat.mod_lt _ (by decide)⟩ : Fin 512))
      = (m ((c : Thread nD τ).loc main_arg1) : IVec S2048x11264 8) (ix2 k n) := fun k => by
    unfold WBLK WTS
    congr 1
    funext a
    apply Fin.ext
    match a with
    | ⟨0, _⟩ => rfl
    | ⟨1, _⟩ => show 512 * (n.val / 512) + n.val % 512 = n.val; omega
  rw [e, OUT_apply, SCALE_apply]
  simp only [ew, ACT_apply]
  congr 1
  exact regroup (fun K => (m ((c : Thread nD τ).loc main_arg0) : FVec Ideal S64x1x8192 .bf16) (ix3 i (0 : Fin 1) K)) (fun K => hx _)
    (fun j k => ((code j.val ((m ((c : Thread nD τ).loc main_arg1) : IVec S2048x11264 8) (ix2 k n)) : ℕ) : ℝ))

end Kernel

end Cert.Equal

end
-- ==== Proof.lean ====
/-
  The proof of `Cert.Claim` (proofs.«01_k».proof.Defs): the frames of the kernel, of its idealization and of the reference, and the equality
  of the idealized kernel's result with the reference's for finite activations. The equality is Proof/Equal.lean's `result_eq`; the two runs
  it joins are Proof/Array.lean's `run` and the reference's generated run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem

/-- The precondition's one side condition. -/
theorem preFacts : Cert.Pre_x_finite.Facts := ⟨by decide⟩

/-- The reference runs, leaves its arguments alone, and has no semaphore whose counter could be other than zero. -/
theorem referenceFrame : Cert.quiescent_ReferenceIdeal (hReferenceIdeal := Cert.ReferenceIdeal.Gen.facts) := fun m g _ =>
  (θ_run _ _ _).mono (fun r h => ⟨fun c => (h c).2, sem_eq_zero_of_no_sems rfl _⟩) (Cert.ReferenceIdeal.Value.run (F := Ideal) m g)

/-- The idealized kernel's result is the reference's, for finite activations. -/
theorem equal : Cert.algebraic_KernelIdeal_ReferenceIdeal_pre_x_finite (hKernelIdeal := Cert.KernelIdeal.Gen.facts)
    (hReferenceIdeal := Cert.ReferenceIdeal.Gen.facts) (hPre_x_finite := preFacts) := by
  intro m g m' g' hpre hagree
  refine ⟨fun c => Cert.KernelIdeal.Hand.RESULT m c, Cert.KernelIdeal.Hand.run m g, ?_⟩
  refine (θ_run _ _ _).mono (fun r h c => ⟨(h c).1.trans ?_, (h c).2⟩) (Cert.ReferenceIdeal.Value.run (F := Ideal) m' g')
  obtain ⟨e0, e1, e2⟩ := hagree c
  rw [e0, e1, e2]
  letI := preFacts
  exact (Cert.Equal.result_eq m c (fun i => Cert.Equal.real_of_pre _ _ _ (hpre c) i)).symm

theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    referenceFrame,
    fun m g _ => referenceFrame m g trivial,
    trivial,
    equal⟩

end Cert.Proof

end
